-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x5120 : Shape := ⟨3, ![4, 4096, 5120]⟩
abbrev S4x4096x1 : Shape := ⟨3, ![4, 4096, 1]⟩
abbrev S5120x5120 : Shape := ⟨2, ![5120, 5120]⟩
abbrev S5120 : Shape := ⟨1, ![5120]⟩
abbrev S16384x5120 : Shape := ⟨2, ![16384, 5120]⟩
abbrev S128x128 : Shape := ⟨2, ![128, 128]⟩
abbrev S1x5120 : Shape := ⟨2, ![1, 5120]⟩
abbrev S1024x5120 : Shape := ⟨2, ![1024, 5120]⟩
abbrev S8x128 : Shape := ⟨2, ![8, 128]⟩
abbrev S5120x2560 : Shape := ⟨2, ![5120, 2560]⟩
abbrev S1x2560 : Shape := ⟨2, ![1, 2560]⟩
abbrev S1024x2560 : Shape := ⟨2, ![1024, 2560]⟩
abbrev S128x8 : Shape := ⟨2, ![128, 8]⟩
abbrev S128x2560 : Shape := ⟨2, ![128, 2560]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x5120, .fp8e4m3⟩
  | .hbm, ⟨1, _⟩ => ⟨S4x4096x1, .f32⟩
  | .hbm, ⟨2, _⟩ => ⟨S5120x5120, .fp8e4m3⟩
  | .hbm, ⟨3, _⟩ => ⟨S5120, .f32⟩
  | .hbm, ⟨4, _⟩ => ⟨S16384x5120, .fp8e4m3⟩
  | .hbm, ⟨5, _⟩ => ⟨S128x128, .f32⟩
  | .hbm, ⟨6, _⟩ => ⟨S1x5120, .f32⟩
  | .hbm, ⟨7, _⟩ => ⟨S16384x5120, .bf16⟩
  | .hbm, ⟨8, _⟩ => ⟨S4x4096x5120, .bf16⟩
  | .local _ .vmem, ⟨0, _⟩ => ⟨S1024x5120, .fp8e4m3⟩
  | .local _ .vmem, ⟨1, _⟩ => ⟨S1024x5120, .fp8e4m3⟩
  | .local _ .vmem, ⟨2, _⟩ => ⟨S8x128, .f32⟩
  | .local _ .vmem, ⟨3, _⟩ => ⟨S8x128, .f32⟩
  | .local _ .vmem, ⟨4, _⟩ => ⟨S5120x2560, .fp8e4m3⟩
  | .local _ .vmem, ⟨5, _⟩ => ⟨S5120x2560, .fp8e4m3⟩
  | .local _ .vmem, ⟨6, _⟩ => ⟨S1x2560, .f32⟩
  | .local _ .vmem, ⟨7, _⟩ => ⟨S1x2560, .f32⟩
  | .local _ .vmem, ⟨8, _⟩ => ⟨S1024x2560, .bf16⟩
  | .local _ .vmem, ⟨9, _⟩ => ⟨S1024x2560, .bf16⟩
  | _, _ => ⟨S4x4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5120x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x5120 : Shape := ⟨3, ![4, 4096, 5120]⟩
abbrev S4x4096x1 : Shape := ⟨3, ![4, 4096, 1]⟩
abbrev S5120x5120 : Shape := ⟨2, ![5120, 5120]⟩
abbrev S5120 : Shape := ⟨1, ![5120]⟩
abbrev S1x1x5120 : Shape := ⟨3, ![1, 1, 5120]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x5120, .fp8e4m3⟩
  | .hbm, ⟨1, _⟩ => ⟨S4x4096x1, .f32⟩
  | .hbm, ⟨2, _⟩ => ⟨S5120x5120, .fp8e4m3⟩
  | .hbm, ⟨3, _⟩ => ⟨S5120, .f32⟩
  | .hbm, ⟨4, _⟩ => ⟨S4x4096x5120, .bf16⟩
  | .local _ .vmem, ⟨0, _⟩ => ⟨S4x4096x5120, .fp8e4m3⟩
  | .local _ .vmem, ⟨1, _⟩ => ⟨S4x4096x1, .f32⟩
  | .local _ .vmem, ⟨2, _⟩ => ⟨S5120x5120, .fp8e4m3⟩
  | .local _ .vmem, ⟨3, _⟩ => ⟨S5120, .f32⟩
  | .local _ .vmem, ⟨4, _⟩ => ⟨S4x4096x5120, .bf16⟩
  | _, _ => ⟨S4x4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x4096x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
/- WHAT THE KERNEL LEAVES IN ONE OUTPUT BLOCK. The body multiplies a block of 1024 rows by a block of 2560 columns, then
   scales the product in eight strips of 128 rows: strip `g` takes its row scales from row `g` of an 8 x 128 block (turned on
   its side, so that they run down the strip) and its column scales from a 1 x 2560 block. Read at an index, all eight strips
   are one function of the four input blocks. -/
module

public import proofs.«01_k».proof.Proof.Gen.KernelIdeal.Frame
public import Idealize.ShloMosaic.Lib.Pipeline.Value
public import Idealize.ShloMosaic.Lib.Pointwise

@[expose] public section

noncomputable section

namespace Cert.Proof.Block

open Cert.KernelIdeal Cert.KernelIdeal.Gen Idealize.ShloMosaic Idealize.SL.Sem

/-- The scale block's index for row `r` of an output block: the rows are scaled in groups of 128, one scale row a group. -/
def scaleIdx (r : Fin 1024) : S8x128.Idx :=
  ix2 (⟨r.val / 128, by have := r.isLt; omega⟩ : Fin 8) (⟨r.val % 128, Nat.mod_lt _ (by decide)⟩ : Fin 128)

/-- An output block as one function of the input blocks: the dot product of a row and a column, times the row's scale, times
    the column's scale. -/
def scaled (x0 : Vec Ideal S1024x5120 .fp8e4m3) (x1 : Vec Ideal S8x128 .f32) (x2 : Vec Ideal S5120x2560 .fp8e4m3)
    (x3 : Vec Ideal S1x2560 .f32) : Vec Ideal S1024x2560 .bf16 :=
  fun y => (∑ k : Fin 5120, x0 (ix2 (y 0) k) * x2 (ix2 k (y 1))) * x1 (scaleIdx (y 0)) * x3 (ix2 0 (y 1))

/-- One strip's payload, for any group `g` and first row `o`: the strip of the product, times the column `g` of the turned
    scale block, times the column scales. -/
def strip (o g : Nat) (hs : S1024x2560.Slices ![o, 0] S128x2560) (hg : S128x8.Slices ![0, g] S128x1)
    (acc : FVec Ideal S1024x2560 .f32) (xs : FVec Ideal S128x8 .f32) (ws : FVec Ideal S1x2560 .f32) : FVec Ideal S128x2560 .bf16 :=
  truncf .bf16 (mulf (mulf (extractStridedSlice S128x2560 ![o, 0] acc hs)
    (broadcastTo S128x2560 (extractStridedSlice S128x1 ![0, g] xs hg) broadcasts_S128x1_S128x2560))
    (broadcastTo S128x2560 ws broadcasts_S1x2560_S128x2560)) bitsLt_bf16_f32

/-- The product at an index: a sum of 5120 products. -/
theorem product_apply (x0 : Vec Ideal S1024x5120 .fp8e4m3) (x2 : Vec Ideal S5120x2560 .fp8e4m3) (r : Fin 1024) (n : Fin 2560) :
    k0_pay5 x0 x2 (ix2 r n) = ∑ k : Fin 5120, x0 (ix2 r k) * x2 (ix2 k n) := by
  pointwise [k0_pay5]

/-- The turned scale block at an index. -/
theorem turned_apply (x1 : Vec Ideal S8x128 .f32) (r : Fin 128) (g : Fin 8) : k0_pay6 x1 (ix2 r g) = x1 (ix2 g r) := by
  pointwise [k0_pay6]

/-- The column scales at an index. -/
theorem columns_apply (x3 : Vec Ideal S1x2560 .f32) (n : Fin 2560) : k0_pay7 x3 (ix2 0 n) = x3 (ix2 0 n) := by
  pointwise [k0_pay7]

/-- A strip at an index, over the values it is cut from. -/
theorem strip_apply (g : Fin 8) (hs : S1024x2560.Slices ![128 * g.val, 0] S128x2560) (hg : S128x8.Slices ![0, g.val] S128x1)
    (acc : FVec Ideal S1024x2560 .f32) (xs : FVec Ideal S128x8 .f32) (ws : FVec Ideal S1x2560 .f32) (r : Fin 128) (n : Fin 2560) :
    strip (128 * g.val) g.val hs hg acc xs ws (ix2 r n)
      = acc (ix2 (⟨128 * g.val + r.val, by have := g.isLt; have := r.isLt; omega⟩ : Fin 1024) n) * xs (ix2 r g) * ws (ix2 0 n) := by
  unfold strip
  pointwise

/-- A strip of the body, read at an index of the strip, is `scaled` at the index of the block the strip's rectangle names. -/
theorem strip_eq_scaled (x0 : Vec Ideal S1024x5120 .fp8e4m3) (x1 : Vec Ideal S8x128 .f32) (x2 : Vec Ideal S5120x2560 .fp8e4m3)
    (x3 : Vec Ideal S1x2560 .f32) (g : Fin 8) (hs : S1024x2560.Slices ![128 * g.val, 0] S128x2560)
    (hg : S128x8.Slices ![0, g.val] S128x1)
    (inb : ∀ a, (![128 * g.val, 0] : Fin 2 → Nat) a + S128x2560.size a ≤ S1024x2560.size a) (x : S128x2560.Idx) :
    strip (128 * g.val) g.val hs hg (k0_pay5 x0 x2) (k0_pay6 x1) (k0_pay7 x3) x
      = scaled x0 x1 x2 x3 ((Rect.unit (s := S1024x2560) ![128 * g.val, 0] S128x2560.size inb).emb x) := by
  obtain ⟨r, n, rfl⟩ : ∃ (r : Fin 128) (n : Fin 2560), x = ix2 r n := ⟨x 0, x 1, eq_ix2 x⟩
  have hr : r.val < 128 := r.isLt
  have hg8 : g.val < 8 := g.isLt
  have e : (Rect.unit (s := S1024x2560) ![128 * g.val, 0] S128x2560.size inb).emb (ix2 r n)
      = ix2 (⟨128 * g.val + r.val, by omega⟩ : Fin 1024) n :=
    Shape.idx_ext₂ (by rw [Rect.emb_apply]; show 128 * g.val + 1 * r.val = 128 * g.val + r.val; omega)
      (by rw [Rect.emb_apply]; show 0 + 1 * n.val = n.val; omega)
  have e1 : scaleIdx (⟨128 * g.val + r.val, by omega⟩ : Fin 1024) = ix2 g r :=
    Shape.idx_ext₂ (by show (128 * g.val + r.val) / 128 = g.val; omega)
      (by show (128 * g.val + r.val) % 128 = r.val; omega)
  rw [strip_apply, product_apply, turned_apply, columns_apply, e]
  unfold scaled
  rw [ix2_0, ix2_1, e1]

/-- THE BLOCK the body leaves: `scaled` of the four input blocks, whatever they hold. -/
theorem out_eq (x0 : Vec Ideal S1024x5120 .fp8e4m3) (x1 : Vec Ideal S8x128 .f32) (x2 : Vec Ideal S5120x2560 .fp8e4m3)
    (x3 : Vec Ideal S1x2560 .f32) : out0_4 x0 x1 x2 x3 = scaled x0 x1 x2 x3 := by
  have hz : (![0, 0] : Fin 2 → Nat) = fun _ => 0 := funext fun a => by fin_cases a <;> rfl
  unfold_out out0_4
  rw [View.ld_unit_zero (S := S1024x5120) hz _ x0, View.ld_unit_zero (S := S8x128) hz _ x1,
    View.ld_unit_zero (S := S5120x2560) hz _ x2, View.ld_unit_zero (S := S1x2560) hz _ x3]
  funext y
  refine View.canon_apply_of_pieces (scaled x0 x1 x2 x3) _ ?_ y (cover0_4 _ _ _ _ _ _ _ _ y)
  simp only [List.forall_mem_cons]
  exact ⟨strip_eq_scaled x0 x1 x2 x3 7 _ _ _, strip_eq_scaled x0 x1 x2 x3 6 _ _ _, strip_eq_scaled x0 x1 x2 x3 5 _ _ _,
    strip_eq_scaled x0 x1 x2 x3 4 _ _ _, strip_eq_scaled x0 x1 x2 x3 3 _ _ _, strip_eq_scaled x0 x1 x2 x3 2 _ _ _,
    strip_eq_scaled x0 x1 x2 x3 1 _ _ _, strip_eq_scaled x0 x1 x2 x3 0 _ _ _, fun _ h => absurd h List.not_mem_nil⟩

end Cert.Proof.Block

end
-- ==== Proof.Array.lean ====
/- WHAT THE KERNEL'S CALL LEAVES IN ITS RESULT ARRAY. The grid is 2 x 16: a point names a block of 2560 columns and a block
   of 1024 rows, and writes that block of the 16384 x 5120 result. Every block is the same function of the whole input arrays
   read at the block's place, and the blocks cover the array, so the array is that function. -/
module

public import proofs.«01_k».proof.Proof.Block

@[expose] public section

noncomputable section

namespace Cert.Proof.Array

open Cert.KernelIdeal Cert.KernelIdeal.Gen Idealize.ShloMosaic Idealize.ShloMosaic.TcCoe Idealize.SL.Sem
open Cert.Proof.Block

variable (m : (ℓ : Loc nD τ sig) → Buf (Elt Ideal) ℓ)

/-- The result array as one function of the call's operands: the dot product of a row and a column, times the row's scale
    (row `r` of the array has the scale at row `r / 128`, column `r % 128`), times the column's scale. -/
def whole (X : Vec Ideal S16384x5120 .fp8e4m3) (S : Vec Ideal S128x128 .f32) (W : Vec Ideal S5120x5120 .fp8e4m3)
    (ws : Vec Ideal S1x5120 .f32) : Vec Ideal S16384x5120 .bf16 :=
  fun y => (∑ k : Fin 5120, X (ix2 (y 0) k) * W (ix2 k (y 1)))
    * S (ix2 (⟨(y 0).val / 128, by have : (y 0).val < 16384 := (y 0).isLt; omega⟩ : Fin 128)
        (⟨(y 0).val % 128, Nat.mod_lt _ (by decide)⟩ : Fin 128))
    * ws (ix2 0 (y 1))

/-- A block of `scaled` is a piece of `whole` wherever the four input blocks are the matching pieces of the operands. -/
theorem scaled_eq_whole (X : Vec Ideal S16384x5120 .fp8e4m3) (S : Vec Ideal S128x128 .f32) (W : Vec Ideal S5120x5120 .fp8e4m3)
    (ws : Vec Ideal S1x5120 .f32) (x0 : Vec Ideal S1024x5120 .fp8e4m3) (x1 : Vec Ideal S8x128 .f32)
    (x2 : Vec Ideal S5120x2560 .fp8e4m3) (x3 : Vec Ideal S1x2560 .f32) (j : S1024x2560.Idx) (y : S16384x5120.Idx)
    (h0 : ∀ k : Fin 5120, x0 (ix2 (j 0) k) = X (ix2 (y 0) k))
    (h1 : x1 (scaleIdx (j 0)) = S (ix2 (⟨(y 0).val / 128, by have : (y 0).val < 16384 := (y 0).isLt; omega⟩ : Fin 128)
      (⟨(y 0).val % 128, Nat.mod_lt _ (by decide)⟩ : Fin 128)))
    (h2 : ∀ k : Fin 5120, x2 (ix2 k (j 1)) = W (ix2 k (y 1))) (h3 : x3 (ix2 0 (j 1)) = ws (ix2 0 (y 1))) :
    scaled x0 x1 x2 x3 j = whole X S W ws y := by
  unfold scaled whole
  rw [h1, h3, Finset.sum_congr rfl fun k _ => by rw [h0 k, h2 k]]

/-- The operands' blocks move with the result's: the rows' and row scales' with its rows, the columns' and column scales'
    with its columns (decided over the 32 points). -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2) :=
  (by decide +kernel : ∀ t : Fin grid0.N, _)

/-- Point `t` writes the row block `t % 16` and the column block `t / 16`. -/
theorem index_out : ∀ t : Fin cfg0.N,
    win0_4.index t (0 : Fin 2) = t.val % 16 ∧ win0_4.index t (1 : Fin 2) = t.val / 16 :=
  (by decide +kernel : ∀ t : Fin grid0.N, _)

/-- WHAT A POINT WRITES BACK is its block of `whole` of the call's operands. -/
theorem flushed_eq (c : Dev nD) (t : Fin cfg0.N) :
    (dats m 0 c).flushed 4 t = ((cfg0.win 4).blk t).view.read (Elt Ideal)
      (whole (V m c main_v0) (V m c main_v1) (V m c main_arg2) (V m c main_v2)) := by
  show (cfg0.win 4).cut (grid0.coords t) ((dats m 0 c).after 4 t) = _
  rw [after0_4, out_eq]
  obtain ⟨a0, a1, b0, b1, c0, c1, d0, d1⟩ := index_facts t
  funext j
  show scaled (iblk m c 0 t) (iblk m c 1 t) (iblk m c 2 t) (iblk m c 3 t) j
    = whole (V m c main_v0) (V m c main_v1) (V m c main_arg2) (V m c main_v2) (((cfg0.win 4).blk t).view.emb j)
  have hj : (j 0).val < 1024 := (j 0).isLt
  generalize hy : ((cfg0.win 4).blk t).view.emb j = y
  have y0 : (y 0).val = win0_4.index t (0 : Fin 2) * 1024 + 1 * (j 0).val := by rw [← hy]; rfl
  have y1 : (y 1).val = win0_4.index t (1 : Fin 2) * 2560 + 1 * (j 1).val := by rw [← hy]; rfl
  have ex : ∀ k : Fin 5120, ((cfg0.win 0).blk t).view.emb (ix2 (j 0 : Fin 1024) k) = ix2 (y 0 : Fin 16384) k := fun k =>
    Shape.idx_ext₂ (by show win0_0.index t (0 : Fin 2) * 1024 + 1 * (j 0).val = (y 0).val; omega)
      (by show win0_0.index t (1 : Fin 2) * 5120 + 1 * k.val = k.val; omega)
  have es : ((cfg0.win 1).blk t).view.emb (scaleIdx (j 0))
      = ix2 (⟨(y 0).val / 128, by have : (y 0).val < 16384 := (y 0).isLt; omega⟩ : Fin 128)
          (⟨(y 0).val % 128, Nat.mod_lt _ (by decide)⟩ : Fin 128) :=
    Shape.idx_ext₂ (by show win0_1.index t (0 : Fin 2) * 8 + 1 * ((j 0).val / 128) = (y 0).val / 128; omega)
      (by show win0_1.index t (1 : Fin 2) * 128 + 1 * ((j 0).val % 128) = (y 0).val % 128; omega)
  have ew : ∀ k : Fin 5120, ((cfg0.win 2).blk t).view.emb (ix2 k (j 1 : Fin 2560)) = ix2 k (y 1 : Fin 5120) := fun k =>
    Shape.idx_ext₂ (by show win0_2.index t (0 : Fin 2) * 5120 + 1 * k.val = k.val; omega)
      (by show win0_2.index t (1 : Fin 2) * 2560 + 1 * (j 1).val = (y 1).val; omega)
  have ec : ((cfg0.win 3).blk t).view.emb (ix2 (0 : Fin 1) (j 1 : Fin 2560)) = ix2 (0 : Fin 1) (y 1 : Fin 5120) :=
    Shape.idx_ext₂ (by show win0_3.index t (0 : Fin 2) * 1 + 1 * 0 = 0; omega)
      (by show win0_3.index t (1 : Fin 2) * 2560 + 1 * (j 1).val = (y 1).val; omega)
  exact scaled_eq_whole _ _ _ _ _ _ _ _ j y (fun k => congrArg (V m c main_v0) (ex k)) (congrArg (V m c main_v1) es)
    (fun k => congrArg (V m c main_arg2) (ew k)) (congrArg (V m c main_v2) ec)

/-- Every index of the result array is in the block of some point. -/
theorem covered (i : S16384x5120.Idx) :
    ∃ t : Fin cfg0.N, (cfg0.win 4).flush t = true ∧ i ∈ ((cfg0.win 4).blk t).view.set := by
  have h0 : (i 0).val < 16384 := (i 0).isLt
  have h1 : (i 1).val < 5120 := (i 1).isLt
  let t : Fin cfg0.N := ⟨16 * ((i 1).val / 2560) + (i 0).val / 1024, by show _ < 32; omega⟩
  have ht : t.val = 16 * ((i 1).val / 2560) + (i 0).val / 1024 := rfl
  obtain ⟨e0, e1⟩ := index_out t
  refine ⟨t, flush0_4 t, ?_⟩
  have h := ((cfg0.win 4).blk t).view.emb_mem_set
    (ix2 (⟨(i 0).val % 1024, Nat.mod_lt _ (by decide)⟩ : Fin 1024) (⟨(i 1).val % 2560, Nat.mod_lt _ (by decide)⟩ : Fin 2560))
  have e : ((cfg0.win 4).blk t).view.emb
      (ix2 (⟨(i 0).val % 1024, Nat.mod_lt _ (by decide)⟩ : Fin 1024) (⟨(i 1).val % 2560, Nat.mod_lt _ (by decide)⟩ : Fin 2560)) = i :=
    Shape.idx_ext₂ (by show win0_4.index t (0 : Fin 2) * 1024 + 1 * ((i 0).val % 1024) = (i 0).val; omega)
      (by show win0_4.index t (1 : Fin 2) * 2560 + 1 * ((i 1).val % 2560) = (i 1).val; omega)
  rwa [e] at h

/-- THE RESULT ARRAY after the call: `whole` of the call's operands. -/
theorem final (c : Dev nD) : (dats m 0 c).arrAt 4 cfg0.N
    = whole (V m c main_v0) (V m c main_v1) (V m c main_arg2) (V m c main_v2) :=
  (dats m 0 c).arrAt_eq_of_cover 4 _ (fun t _ => flushed_eq m c t) covered

end Cert.Proof.Array

end
-- ==== Proof.KernelValue.lean ====
/- WHAT THE KERNEL COMPUTES FROM ITS ARGUMENTS. Around its one call the kernel only reshapes: it flattens the batch and row
   axes of the activations, lays the 16384 row scales out as 128 x 128, makes the column scales a row, and reshapes the
   call's result back to batches. Each reshape keeps the row-major position. -/
module

public import proofs.«01_k».proof.Proof.Array

@[expose] public section

noncomputable section

namespace Cert.Proof.KernelValue

open Cert.KernelIdeal Cert.KernelIdeal.Gen Idealize.ShloMosaic Idealize.ShloMosaic.TcCoe Idealize.SL.Sem
open Cert.Proof.Array

variable (m : (ℓ : Loc nD τ sig) → Buf (Elt Ideal) ℓ) (ρ : Dev nD → PrngReg)

/-- The kernel's result as one function of its arguments: the call's result array, reshaped, at the reshaped arguments. -/
def result (a0 : Vec Ideal S4x4096x5120 .fp8e4m3) (a1 : Vec Ideal S4x4096x1 .f32) (a2 : Vec Ideal S5120x5120 .fp8e4m3)
    (a3 : Vec Ideal S5120 .f32) : Vec Ideal S4x4096x5120 .bf16 :=
  shapeCast S4x4096x5120
    (whole (shapeCast S16384x5120 a0 shapeCasts_S4x4096x5120_S16384x5120) (shapeCast S128x128 a1 shapeCasts_S4x4096x1_S128x128) a2
      (shapeCast S1x5120 a3 shapeCasts_S5120_S1x5120)) shapeCasts_S16384x5120_S4x4096x5120

/-- The call's first operand: the activations, flattened to 16384 rows. -/
theorem rows_eq (c : Dev nD) : (V m c main_v0 : Vec Ideal S16384x5120 .fp8e4m3)
    = shapeCast S16384x5120 (m ((c : Thread nD τ).loc main_arg0) : Vec Ideal S4x4096x5120 .fp8e4m3)
        shapeCasts_S4x4096x5120_S16384x5120 := by
  show StableHlo.after hostOps0 _ _ = _
  after_results
  rfl

/-- The call's second operand: the row scales, laid out as 128 x 128. -/
theorem scales_eq (c : Dev nD) : (V m c main_v1 : Vec Ideal S128x128 .f32)
    = shapeCast S128x128 (m ((c : Thread nD τ).loc main_arg1) : Vec Ideal S4x4096x1 .f32) shapeCasts_S4x4096x1_S128x128 := by
  show StableHlo.after hostOps0 _ _ = _
  after_results
  rfl

/-- The call's fourth operand: the column scales, as one row. -/
theorem columns_eq (c : Dev nD) : (V m c main_v2 : Vec Ideal S1x5120 .f32)
    = shapeCast S1x5120 (m ((c : Thread nD τ).loc main_arg3) : Vec Ideal S5120 .f32) shapeCasts_S5120_S1x5120 := by
  show StableHlo.after hostOps0 _ _ = _
  after_results
  rfl

/-- The kernel's result buffer holds the call's result array, reshaped. -/
theorem tail_eq (c : Dev nD) : (Pipeline.afterTail₀ cfgs (dats m) 0 (V0 m) [hostOps1] c main_v4 : Vec Ideal S4x4096x5120 .bf16)
    = shapeCast S4x4096x5120 ((dats m 0 c).arrAt 4 cfg0.N : Vec Ideal S16384x5120 .bf16) shapeCasts_S16384x5120_S4x4096x5120 := by
  have e : Pipeline.withArrays (cfgs 0).spec c (V0 m c) (fun w => (dats m 0 c).arrAt w (cfgs 0).N) (Proc.devRef .tc main_v3)
      = (dats m 0 c).arrAt 4 cfg0.N :=
    Pipeline.withArrays_arr spec0 launch0.win.arr_inj c (V0 m c) (fun w => (dats m 0 c).arrAt w cfg0.N) 4
  unfold Pipeline.afterTail₀
  show StableHlo.after hostOps1 _ _ = _
  after_results
  rw [e]
  rfl

/-- THE KERNEL'S RESULT BUFFER after the run: `result` of the arguments as launched. -/
theorem value_eq (c : Dev nD) : (Pipeline.afterTail₀ cfgs (dats m) 0 (V0 m) [hostOps1] c main_v4 : Vec Ideal S4x4096x5120 .bf16)
    = result (m ((c : Thread nD τ).loc main_arg0)) (m ((c : Thread nD τ).loc main_arg1)) (m ((c : Thread nD τ).loc main_arg2))
        (m ((c : Thread nD τ).loc main_arg3)) := by
  rw [tail_eq, final, rows_eq, scales_eq, columns_eq, V_main_arg2]
  rfl

/-- THE KERNEL'S RUN, READ: the result buffer at `result` of the arguments, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v4 (Pipeline.mem_restRefs_of main_v4 (by decide) (by decide))).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

/-- The kernel's result read at batch `b`, row `s`, output feature `n`: the dot product, times the row's scale, times the
    column's scale. -/
theorem result_apply (a0 : Vec Ideal S4x4096x5120 .fp8e4m3) (a1 : Vec Ideal S4x4096x1 .f32) (a2 : Vec Ideal S5120x5120 .fp8e4m3)
    (a3 : Vec Ideal S5120 .f32) (b : Fin 4) (s : Fin 4096) (n : Fin 5120) :
    result a0 a1 a2 a3 (ix3 b s n) = (∑ k : Fin 5120, a0 (ix3 b s k) * a2 (ix2 k n)) * a1 (ix3 b s 0) * a3 (ix1 n) := by
  pointwise [result, whole]

end Cert.Proof.KernelValue

end
-- ==== Proof.RefValue.lean ====
/- WHAT THE REFERENCE COMPUTES, read at an index: batch `b`, row `s`, output feature `n`. -/
module

public import proofs.«01_k».proof.Proof.Gen.ReferenceIdeal.Value
public import Idealize.ShloMosaic.Lib.Pointwise

@[expose] public section

noncomputable section

namespace Cert.Proof.RefValue

open Cert.ReferenceIdeal Cert.ReferenceIdeal.Gen Idealize.ShloMosaic Idealize.SL.Sem

/-- The reference's result: the dot product of a row of the first argument and a column of the third, times the row's scale,
    times the column's scale. -/
theorem result_apply (a0 : Vec Ideal S4x4096x5120 .fp8e4m3) (a1 : Vec Ideal S4x4096x1 .f32) (a2 : Vec Ideal S5120x5120 .fp8e4m3)
    (a3 : Vec Ideal S5120 .f32) (b : Fin 4) (s : Fin 4096) (n : Fin 5120) :
    k0_pay1 a0 a1 a2 a3 (ix3 b s n) = (∑ k : Fin 5120, a0 (ix3 b s k) * a2 (ix2 k n)) * a1 (ix3 b s 0) * a3 (ix1 n) := by
  pointwise [k0_pay1]

end Cert.Proof.RefValue

end
-- ==== Proof.lean ====
/- THE CLAIMS, PROVED. The kernel, its ideal reading and the reference each run to quiescence with their arguments unchanged
   (the generated frames), and on the same arguments the kernel's ideal reading and the reference leave the same result. -/
module

public import proofs.«01_k».proof.Defs
public import proofs.«01_k».proof.Proof.Gen.Kernel.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem

/-- The kernel's result and the reference's are one function of the arguments, whatever the arguments hold (infinities
    included: both multiply the same factors in the same order). -/
theorem result_eq (a0 : Vec Ideal Cert.KernelIdeal.S4x4096x5120 .fp8e4m3) (a1 : Vec Ideal Cert.KernelIdeal.S4x4096x1 .f32)
    (a2 : Vec Ideal Cert.KernelIdeal.S5120x5120 .fp8e4m3) (a3 : Vec Ideal Cert.KernelIdeal.S5120 .f32) :
    Cert.ReferenceIdeal.Value.G4 a0 a1 a2 a3 = KernelValue.result a0 a1 a2 a3 := by
  funext y
  obtain ⟨b, s, n, rfl⟩ : ∃ (b : Fin 4) (s : Fin 4096) (n : Fin 5120), y = ix3 b s n := ⟨y 0, y 1, y 2, eq_ix3 y⟩
  exact (RefValue.result_apply a0 a1 a2 a3 b s n).trans (KernelValue.result_apply a0 a1 a2 a3 b s n).symm

/-- THE VALUE CLAIM: run on the same arguments, the kernel's ideal reading and the reference leave equal results. -/
theorem algebraic : Cert.algebraic_KernelIdeal_ReferenceIdeal := by
  intro m g m' g' _ hargs
  refine ⟨fun c => KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    KernelValue.run m g, ?_⟩
  refine (θ_run (Cert.ReferenceIdeal.defs (F := Ideal)) _ _).mono (fun r h c => ?_)
    (Cert.ReferenceIdeal.Value.run (F := Ideal) m' g')
  obtain ⟨hv, h0, h1, h2, h3⟩ := h c
  refine ⟨hv.trans ?_, h0, h1, h2, h3⟩
  obtain ⟨e0, e1, e2, e3⟩ := hargs c
  rw [e0, e1, e2, e3]
  exact result_eq _ _ _ _

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
